-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_indices_in_range [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_indices_in_range [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel)
    ∧ quiescent_KernelIdeal (hKernelIdeal := hKernelIdeal)
    ∧ quiescent_KernelIdeal_pre_indices_in_range (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal_pre_indices_in_range (hKernelIdeal := hKernelIdeal) (hReferenceIdeal := hReferenceIdeal) (hPre_indices_in_range := hPre_indices_in_range)
-- ==== Pre_indices_in_range.lean ====
abbrev S4096x50x256 : Shape := ⟨3, ![4096, 50, 256]⟩
abbrev S4096x50x3 : Shape := ⟨3, ![4096, 50, 3]⟩
abbrev S7x128 : Shape := ⟨2, ![7, 128]⟩
abbrev S48x128 : Shape := ⟨2, ![48, 128]⟩
abbrev S1000x128 : Shape := ⟨2, ![1000, 128]⟩
abbrev S256x128 : Shape := ⟨2, ![256, 128]⟩
abbrev S128 : Shape := ⟨1, ![128]⟩
abbrev S_ : Shape := ⟨0, ![]⟩

class Facts : Prop where
  bcast_S_S4096x50x3 : S_.BroadcastsInDim S4096x50x3 (![] : Fin 0 → Fin S4096x50x3.rank)
  reducesTo_S4096x50x3_S_d0_1_2 : S4096x50x3.ReducesTo [0, 1, 2] S_
  h_S_ : 0 < S_.numel

variable [Facts]

def fn {F : FTy → Type} [FloatOps F] (main_arg0 : FVec F S4096x50x256 .f32) (main_arg1 : IVec S4096x50x3 32) (main_arg2 : FVec F S7x128 .f32) (main_arg3 : FVec F S48x128 .f32) (main_arg4 : FVec F S1000x128 .f32) (main_arg5 : FVec F S256x128 .f32) (main_arg6 : FVec F S128 .f32) : IVec S_ 1 :=
  let main_c : IVec S_ 32 := constantI S_ 32 0#32
  let main_v0 : IVec S4096x50x3 32 := broadcastInDim S4096x50x3 ![] bcast_S_S4096x50x3 main_c
  let main_v1 : IVec S4096x50x3 1 := cmpi .sge main_arg1 main_v0
  let main_c_0 : IVec S_ 32 := constantI S_ 32 7#32
  let main_v2 : IVec S4096x50x3 32 := broadcastInDim S4096x50x3 ![] bcast_S_S4096x50x3 main_c_0
  let main_v3 : IVec S4096x50x3 1 := cmpi .slt main_arg1 main_v2
  let main_v4 : IVec S4096x50x3 1 := andi main_v1 main_v3
  let main_c_1 : IVec S_ 1 := constantI S_ 1 1#1
  let main_v5 : IVec S_ 1 := (fun x v => Host.reduce IntOp.andi x v reducesTo_S4096x50x3_S_d0_1_2 h_S_) main_v4 main_c_1
  main_v5
-- ==== Kernel.lean ====
abbrev S4096x50x256 : Shape := ⟨3, ![4096, 50, 256]⟩
abbrev S4096x50x3 : Shape := ⟨3, ![4096, 50, 3]⟩
abbrev S7x128 : Shape := ⟨2, ![7, 128]⟩
abbrev S48x128 : Shape := ⟨2, ![48, 128]⟩
abbrev S1000x128 : Shape := ⟨2, ![1000, 128]⟩
abbrev S256x128 : Shape := ⟨2, ![256, 128]⟩
abbrev S128 : Shape := ⟨1, ![128]⟩
abbrev S50x4096x256 : Shape := ⟨3, ![50, 4096, 256]⟩
abbrev S3x50x4096 : Shape := ⟨3, ![3, 50, 4096]⟩
abbrev S1x50x4096 : Shape := ⟨3, ![1, 50, 4096]⟩
abbrev S50x4096 : Shape := ⟨2, ![50, 4096]⟩
abbrev S_ : Shape := ⟨0, ![]⟩
abbrev S32x128 : Shape := ⟨2, ![32, 128]⟩
abbrev S1x128 : Shape := ⟨2, ![1, 128]⟩
abbrev S1 : Shape := ⟨1, ![1]⟩
abbrev S50x4096x128 : Shape := ⟨3, ![50, 4096, 128]⟩
abbrev S50x256x256 : Shape := ⟨3, ![50, 256, 256]⟩
abbrev S50x256 : Shape := ⟨2, ![50, 256]⟩
abbrev S50x256x128 : Shape := ⟨3, ![50, 256, 128]⟩
abbrev S256x50 : Shape := ⟨2, ![256, 50]⟩
abbrev S256x32 : Shape := ⟨2, ![256, 32]⟩
abbrev S1x256x256 : Shape := ⟨3, ![1, 256, 256]⟩
abbrev S256x256 : Shape := ⟨2, ![256, 256]⟩
abbrev S256x1 : Shape := ⟨2, ![256, 1]⟩
abbrev S1x256x128 : Shape := ⟨3, ![1, 256, 128]⟩
abbrev S4096x50x128 : Shape := ⟨3, ![4096, 50, 128]⟩

abbrev nBuf : Space → Nat
  | .hbm => 41
  | .vmem => 8
  | .smem => 0
  | _ => 0

abbrev bufTy : (tb : Table) → Fin (tcTables nBuf tb) → BufTy
  | .hbm, ⟨0, _⟩ => ⟨S4096x50x256, .f32⟩
  | .hbm, ⟨1, _⟩ => ⟨S4096x50x3, .i32⟩
  | .hbm, ⟨2, _⟩ => ⟨S7x128, .f32⟩
  | .hbm, ⟨3, _⟩ => ⟨S48x128, .f32⟩
  | .hbm, ⟨4, _⟩ => ⟨S1000x128, .f32⟩
  | .hbm, ⟨5, _⟩ => ⟨S256x128, .f32⟩
  | .hbm, ⟨6, _⟩ => ⟨S128, .f32⟩
  | .hbm, ⟨7, _⟩ => ⟨S50x4096x256, .f32⟩
  | .hbm, ⟨8, _⟩ => ⟨S3x50x4096, .i32⟩
  | .hbm, ⟨9, _⟩ => ⟨S1x50x4096, .i32⟩
  | .hbm, ⟨10, _⟩ => ⟨S50x4096, .i32⟩
  | .hbm, ⟨11, _⟩ => ⟨S1x50x4096, .i32⟩
  | .hbm, ⟨12, _⟩ => ⟨S50x4096, .i32⟩
  | .hbm, ⟨13, _⟩ => ⟨S_, .i32⟩
  | .hbm, ⟨14, _⟩ => ⟨S50x4096, .i32⟩
  | .hbm, ⟨15, _⟩ => ⟨S50x4096, .i32⟩
  | .hbm, ⟨16, _⟩ => ⟨S50x4096, .i32⟩
  | .hbm, ⟨17, _⟩ => ⟨S1x50x4096, .i32⟩
  | .hbm, ⟨18, _⟩ => ⟨S50x4096, .i32⟩
  | .hbm, ⟨19, _⟩ => ⟨S_, .i32⟩
  | .hbm, ⟨20, _⟩ => ⟨S50x4096, .i32⟩
  | .hbm, ⟨21, _⟩ => ⟨S50x4096, .i32⟩
  | .hbm, ⟨22, _⟩ => ⟨S50x4096, .i32⟩
  | .hbm, ⟨23, _⟩ => ⟨S_, .f32⟩
  | .hbm, ⟨24, _⟩ => ⟨S32x128, .f32⟩
  | .hbm, ⟨25, _⟩ => ⟨S1x128, .f32⟩
  | .hbm, ⟨26, _⟩ => ⟨S7x128, .f32⟩
  | .hbm, ⟨27, _⟩ => ⟨S7x128, .f32⟩
  | .hbm, ⟨28, _⟩ => ⟨S_, .i32⟩
  | .hbm, ⟨29, _⟩ => ⟨S1, .i32⟩
  | .hbm, ⟨30, _⟩ => ⟨S32x128, .f32⟩
  | .hbm, ⟨31, _⟩ => ⟨S7x128, .f32⟩
  | .hbm, ⟨32, _⟩ => ⟨S_, .i32⟩
  | .hbm, ⟨33, _⟩ => ⟨S1, .i32⟩
  | .hbm, ⟨34, _⟩ => ⟨S32x128, .f32⟩
  | .hbm, ⟨35, _⟩ => ⟨S7x128, .f32⟩
  | .hbm, ⟨36, _⟩ => ⟨S_, .i32⟩
  | .hbm, ⟨37, _⟩ => ⟨S1, .i32⟩
  | .hbm, ⟨38, _⟩ => ⟨S32x128, .f32⟩
  | .hbm, ⟨39, _⟩ => ⟨S50x4096x128, .f32⟩
  | .hbm, ⟨40, _⟩ => ⟨S4096x50x128, .f32⟩
  | .local _ .vmem, ⟨0, _⟩ => ⟨S50x256x256, .f32⟩
  | .local _ .vmem, ⟨1, _⟩ => ⟨S50x256x256, .f32⟩
  | .local _ .vmem, ⟨2, _⟩ => ⟨S50x256, .i32⟩
  | .local _ .vmem, ⟨3, _⟩ => ⟨S50x256, .i32⟩
  | .local _ .vmem, ⟨4, _⟩ => ⟨S256x128, .f32⟩
  | .local _ .vmem, ⟨5, _⟩ => ⟨S32x128, .f32⟩
  | .local _ .vmem, ⟨6, _⟩ => ⟨S50x256x128, .f32⟩
  | .local _ .vmem, ⟨7, _⟩ => ⟨S50x256x128, .f32⟩
  | _, _ => ⟨S4096x50x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S50x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S50x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S50x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x50x256 : Shape := ⟨3, ![4096, 50, 256]⟩
abbrev S4096x50x3 : Shape := ⟨3, ![4096, 50, 3]⟩
abbrev S7x128 : Shape := ⟨2, ![7, 128]⟩
abbrev S48x128 : Shape := ⟨2, ![48, 128]⟩
abbrev S1000x128 : Shape := ⟨2, ![1000, 128]⟩
abbrev S256x128 : Shape := ⟨2, ![256, 128]⟩
abbrev S128 : Shape := ⟨1, ![128]⟩
abbrev S4096x50x1 : Shape := ⟨3, ![4096, 50, 1]⟩
abbrev S4096x50 : Shape := ⟨2, ![4096, 50]⟩
abbrev S_ : Shape := ⟨0, ![]⟩
abbrev S1 : Shape := ⟨1, ![1]⟩
abbrev S1x1x1 : Shape := ⟨3, ![1, 1, 1]⟩
abbrev S4096x50x128 : Shape := ⟨3, ![4096, 50, 128]⟩
abbrev S1x1x128 : Shape := ⟨3, ![1, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S4096x50x256, .f32⟩
  | .hbm, ⟨1, _⟩ => ⟨S4096x50x3, .i32⟩
  | .hbm, ⟨2, _⟩ => ⟨S7x128, .f32⟩
  | .hbm, ⟨3, _⟩ => ⟨S48x128, .f32⟩
  | .hbm, ⟨4, _⟩ => ⟨S1000x128, .f32⟩
  | .hbm, ⟨5, _⟩ => ⟨S256x128, .f32⟩
  | .hbm, ⟨6, _⟩ => ⟨S128, .f32⟩
  | .hbm, ⟨7, _⟩ => ⟨S4096x50x1, .i32⟩
  | .hbm, ⟨8, _⟩ => ⟨S4096x50, .i32⟩
  | .hbm, ⟨9, _⟩ => ⟨S_, .i32⟩
  | .hbm, ⟨10, _⟩ => ⟨S4096x50, .i32⟩
  | .hbm, ⟨11, _⟩ => ⟨S4096x50, .i1⟩
  | .hbm, ⟨12, _⟩ => ⟨S_, .i32⟩
  | .hbm, ⟨13, _⟩ => ⟨S4096x50, .i32⟩
  | .hbm, ⟨14, _⟩ => ⟨S4096x50, .i32⟩
  | .hbm, ⟨15, _⟩ => ⟨S4096x50, .i32⟩
  | .hbm, ⟨16, _⟩ => ⟨S4096x50x1, .i32⟩
  | .hbm, ⟨17, _⟩ => ⟨S1, .i32⟩
  | .hbm, ⟨18, _⟩ => ⟨S_, .i32⟩
  | .hbm, ⟨19, _⟩ => ⟨S4096x50x1, .i32⟩
  | .hbm, ⟨20, _⟩ => ⟨S4096x50x1, .i1⟩
  | .hbm, ⟨21, _⟩ => ⟨S1x1x1, .i32⟩
  | .hbm, ⟨22, _⟩ => ⟨S4096x50x1, .i32⟩
  | .hbm, ⟨23, _⟩ => ⟨S4096x50x1, .i1⟩
  | .hbm, ⟨24, _⟩ => ⟨S4096x50x1, .i1⟩
  | .hbm, ⟨25, _⟩ => ⟨S_, .i1⟩
  | .hbm, ⟨26, _⟩ => ⟨S4096x50, .i1⟩
  | .hbm, ⟨27, _⟩ => ⟨S4096x50x128, .f32⟩
  | .hbm, ⟨28, _⟩ => ⟨S4096x50x128, .i1⟩
  | .hbm, ⟨29, _⟩ => ⟨S_, .f32⟩
  | .hbm, ⟨30, _⟩ => ⟨S4096x50x128, .f32⟩
  | .hbm, ⟨31, _⟩ => ⟨S4096x50x128, .f32⟩
  | .hbm, ⟨32, _⟩ => ⟨S4096x50x1, .i32⟩
  | .hbm, ⟨33, _⟩ => ⟨S4096x50, .i32⟩
  | .hbm, ⟨34, _⟩ => ⟨S_, .i32⟩
  | .hbm, ⟨35, _⟩ => ⟨S4096x50, .i32⟩
  | .hbm, ⟨36, _⟩ => ⟨S4096x50, .i1⟩
  | .hbm, ⟨37, _⟩ => ⟨S_, .i32⟩
  | .hbm, ⟨38, _⟩ => ⟨S4096x50, .i32⟩
  | .hbm, ⟨39, _⟩ => ⟨S4096x50, .i32⟩
  | .hbm, ⟨40, _⟩ => ⟨S4096x50, .i32⟩
  | .hbm, ⟨41, _⟩ => ⟨S4096x50x1, .i32⟩
  | .hbm, ⟨42, _⟩ => ⟨S1, .i32⟩
  | .hbm, ⟨43, _⟩ => ⟨S_, .i32⟩
  | .hbm, ⟨44, _⟩ => ⟨S4096x50x1, .i32⟩
  | .hbm, ⟨45, _⟩ => ⟨S4096x50x1, .i1⟩
  | .hbm, ⟨46, _⟩ => ⟨S1x1x1, .i32⟩
  | .hbm, ⟨47, _⟩ => ⟨S4096x50x1, .i32⟩
  | .hbm, ⟨48, _⟩ => ⟨S4096x50x1, .i1⟩
  | .hbm, ⟨49, _⟩ => ⟨S4096x50x1, .i1⟩
  | .hbm, ⟨50, _⟩ => ⟨S_, .i1⟩
  | .hbm, ⟨51, _⟩ => ⟨S4096x50, .i1⟩
  | .hbm, ⟨52, _⟩ => ⟨S4096x50x128, .f32⟩
  | .hbm, ⟨53, _⟩ => ⟨S4096x50x128, .i1⟩
  | .hbm, ⟨54, _⟩ => ⟨S_, .f32⟩
  | .hbm, ⟨55, _⟩ => ⟨S4096x50x128, .f32⟩
  | .hbm, ⟨56, _⟩ => ⟨S4096x50x128, .f32⟩
  | .hbm, ⟨57, _⟩ => ⟨S4096x50x1, .i32⟩
  | .hbm, ⟨58, _⟩ => ⟨S4096x50, .i32⟩
  | .hbm, ⟨59, _⟩ => ⟨S_, .i32⟩
  | .hbm, ⟨60, _⟩ => ⟨S4096x50, .i32⟩
  | .hbm, ⟨61, _⟩ => ⟨S4096x50, .i1⟩
  | .hbm, ⟨62, _⟩ => ⟨S_, .i32⟩
  | .hbm, ⟨63, _⟩ => ⟨S4096x50, .i32⟩
  | .hbm, ⟨64, _⟩ => ⟨S4096x50, .i32⟩
  | .hbm, ⟨65, _⟩ => ⟨S4096x50, .i32⟩
  | .hbm, ⟨66, _⟩ => ⟨S4096x50x1, .i32⟩
  | .hbm, ⟨67, _⟩ => ⟨S1, .i32⟩
  | .hbm, ⟨68, _⟩ => ⟨S_, .i32⟩
  | .hbm, ⟨69, _⟩ => ⟨S4096x50x1, .i32⟩
  | .hbm, ⟨70, _⟩ => ⟨S4096x50x1, .i1⟩
  | .hbm, ⟨71, _⟩ => ⟨S1x1x1, .i32⟩
  | .hbm, ⟨72, _⟩ => ⟨S4096x50x1, .i32⟩
  | .hbm, ⟨73, _⟩ => ⟨S4096x50x1, .i1⟩
  | .hbm, ⟨74, _⟩ => ⟨S4096x50x1, .i1⟩
  | .hbm, ⟨75, _⟩ => ⟨S_, .i1⟩
  | .hbm, ⟨76, _⟩ => ⟨S4096x50, .i1⟩
  | .hbm, ⟨77, _⟩ => ⟨S4096x50x128, .f32⟩
  | .hbm, ⟨78, _⟩ => ⟨S4096x50x128, .i1⟩
  | .hbm, ⟨79, _⟩ => ⟨S_, .f32⟩
  | .hbm, ⟨80, _⟩ => ⟨S4096x50x128, .f32⟩
  | .hbm, ⟨81, _⟩ => ⟨S4096x50x128, .f32⟩
  | .hbm, ⟨82, _⟩ => ⟨S4096x50x128, .f32⟩
  | .hbm, ⟨83, _⟩ => ⟨S1x1x128, .f32⟩
  | .hbm, ⟨84, _⟩ => ⟨S4096x50x128, .f32⟩
  | .hbm, ⟨85, _⟩ => ⟨S4096x50x128, .f32⟩
  | .hbm, ⟨86, _⟩ => ⟨S4096x50x128, .f32⟩
  | .hbm, ⟨87, _⟩ => ⟨S4096x50x128, .f32⟩
  | .hbm, ⟨88, _⟩ => ⟨S4096x50x128, .f32⟩
  | _, _ => ⟨S4096x50x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v8 : Ref sig .tc := ⟨.hbm, 81, rfl⟩
abbrev main_v9 : Ref sig .tc := ⟨.hbm, 82, rfl⟩
abbrev main_v10 : Ref sig .tc := ⟨.hbm, 83, rfl⟩
abbrev main_v11 : Ref sig .tc := ⟨.hbm, 84, rfl⟩
abbrev main_v12 : Ref sig .tc := ⟨.hbm, 85, rfl⟩
abbrev main_v13 : Ref sig .tc := ⟨.hbm, 86, rfl⟩
abbrev main_v14 : Ref sig .tc := ⟨.hbm, 87, rfl⟩
abbrev main_v15 : Ref sig .tc := ⟨.hbm, 88, rfl⟩

abbrev nD : Nat := 1
abbrev τ : Topo := Topo.v7x

variable {F : FTy → Type} [FloatOps F]
-- ==== Proof.Block.lean ====
/- What one block of the kernel computes: the 50 stores of the body are one function of the step, and the block read
   at an index is a product with the weights plus a product of a row of zeros and ones with the table. -/
module

public import proofs.«01_k».proof.Proof.Gen.KernelIdeal.Frame
public import Idealize.ShloMosaic.Lib.Pointwise
public import Idealize.ShloMosaic.Lib.Pipeline.Value

@[expose] public section

set_option maxRecDepth 16384

noncomputable section

namespace Cert.Proof

open Idealize.ShloMosaic Idealize.SL.Sem
open Cert.KernelIdeal Cert.KernelIdeal.Gen

/-- A step's column of packed words lies inside the block of packed words. -/
theorem colSlices (t : Fin 50) : S256x50.Slices ![0, t.val] S256x1 :=
  ⟨rfl, fun a => match a with
    | ⟨0, _⟩ => by show 0 + 256 ≤ 256; omega
    | ⟨1, _⟩ => by show t.val + 1 ≤ 50; omega⟩

section
variable {F : FTy → Type} [FloatOps F]

/-- The row of zeros and ones that step `t` builds from its packed words `p`. -/
def hotRows (p : IVec S256x50 32) (t : Fin 50) : FVec F S256x32 .f32 :=
  have j : IVec S256x32 32 := iota .tc S256x32 32 [1] iota_S256x32_d1_w32
  have v : IVec S256x1 32 := extractStridedSlice S256x1 ![0, t.val] p (colSlices t)
  have a : IVec S256x32 32 := broadcastTo S256x32 (andi v (broadcast S256x1 7#32)) broadcasts_S256x1_S256x32
  have b : IVec S256x32 32 := broadcastTo S256x32
    (addi (andi (shrsi v (broadcast S256x1 3#32)) (broadcast S256x1 7#32)) (broadcast S256x1 8#32)) broadcasts_S256x1_S256x32
  have c : IVec S256x32 32 := broadcastTo S256x32
    (addi (andi (shrsi v (broadcast S256x1 6#32)) (broadcast S256x1 7#32)) (broadcast S256x1 16#32)) broadcasts_S256x1_S256x32
  sitofp .f32 (extui 32 (ori (ori (cmpi .eq j a) (cmpi .eq j b)) (cmpi .eq j c)) natLt_1_32)

/-- What step `t` stores: its rows times the weights, plus its rows of zeros and ones times the table. -/
def stepOut (w : Vec F S256x128 .f32) (tbl : Vec F S32x128 .f32) (p : Vec F S50x256 .i32) (t : Fin 50) (x : Vec F S1x256x256 .f32) :
    FVec F S1x256x128 .f32 :=
  shapeCast S1x256x128
    (addf
      (matmul dot_S256x256_S256x128_S256x128_1_0_0_1_n_n none (shapeCast S256x256 x shapeCasts_S1x256x256_S256x256) w
        (constant S256x128 .f32 0x00000000#32))
      (matmul dot_S256x32_S32x128_S256x128_1_0_0_1_n_n none (hotRows (k0_pay3 p) t) (k0_pay2 tbl)
        (constant S256x128 .f32 0x00000000#32)))
    shapeCasts_S256x128_S1x256x128

/-- Step `t`'s rows inside a block of rows. -/
def inRect (t : Fin 50) : Rect S50x256x256 := Rect.unit (s := S50x256x256) ![t.val, 0, 0] S1x256x256.size (fun a => match a with
    | ⟨0, _⟩ => by show t.val + 1 ≤ 50; omega
    | ⟨1, _⟩ => by show 0 + 256 ≤ 256; omega
    | ⟨2, _⟩ => by show 0 + 256 ≤ 256; omega)

/-- Step `t`'s rows inside a block of the result. -/
def outRect (t : Fin 50) : Rect S50x256x128 := Rect.unit (s := S50x256x128) ![t.val, 0, 0] S1x256x128.size (fun a => match a with
    | ⟨0, _⟩ => by show t.val + 1 ≤ 50; omega
    | ⟨1, _⟩ => by show 0 + 256 ≤ 256; omega
    | ⟨2, _⟩ => by show 0 + 128 ≤ 128; omega)

/-- Step `t`'s store, as the rectangle it covers and what it writes there. -/
def stepPiece (x0 : Vec F S50x256x256 .f32) (x1 : Vec F S50x256 .i32) (x2 : Vec F S256x128 .f32) (x3 : Vec F S32x128 .f32)
    (t : Fin 50) : View.Piece (Elt F) S50x256x128 .f32 :=
  ⟨outRect t, stepOut (View.ld x2 r0_0) (View.ld x3 r0_1) (View.ld x1 r0_2) t (View.ld x0 (inRect t))⟩

set_option maxHeartbeats 4000000 in
/-- The body's 50 stores are the 50 steps' stores, the last first. -/
theorem out_eq_steps (x0 : Vec F S50x256x256 .f32) (x1 : Vec F S50x256 .i32) (x2 : Vec F S256x128 .f32) (x3 : Vec F S32x128 .f32) :
    out0_4 x0 x1 x2 x3 = View.canon (List.ofFn fun i : Fin 50 => stepPiece x0 x1 x2 x3 i.rev) := by
  unfold_out out0_4
  rfl

end

/-- Whether column `j` of the table is one of the three that the packed word `p` names: a bit. -/
def named (p : BitVec 32) (j : Fin 32) : BitVec 1 :=
  IntOp.ori
    (IntOp.ori (IntOp.cmpi .eq (BitVec.ofNat 32 j.val) (IntOp.andi p 7#32))
      (IntOp.cmpi .eq (BitVec.ofNat 32 j.val) (IntOp.addi (IntOp.andi (IntOp.shrsi .vector p 3#32) 7#32) 8#32)))
    (IntOp.cmpi .eq (BitVec.ofNat 32 j.val) (IntOp.addi (IntOp.andi (IntOp.shrsi .vector p 6#32) 7#32) 16#32))

/-- One element of the result: a row times a column of the weights, plus the entries of a column of the table that the packed
    word names. -/
def cell (row col : Fin 256 → EReal) (p : BitVec 32) (tbl : Fin 32 → EReal) : EReal :=
  (∑ k, row k * col k) + ∑ j, (FloatOps.sitofp .f32 (BitVec.setWidth 32 (named p j)) : Ideal .f32) * tbl j

/-- What a step stores, at an index. -/
theorem stepOut_apply (w : Vec Ideal S256x128 .f32) (tbl : Vec Ideal S32x128 .f32) (p : Vec Ideal S50x256 .i32) (t : Fin 50)
    (x : Vec Ideal S1x256x256 .f32) (b : Fin 256) (h : Fin 128) :
    stepOut w tbl p t x (ix3 0 b h)
      = cell (fun k => x (ix3 0 b k)) (fun k => w (ix2 k h)) (p (ix2 t b)) (fun j => tbl (ix2 j h)) := by
  pointwise [stepOut, hotRows, k0_pay3, k0_pay2]
  rfl

/-- A block of the result as a function of the blocks of the operands. -/
def blockFn (x0 : Vec Ideal S50x256x256 .f32) (x1 : Vec Ideal S50x256 .i32) (x2 : Vec Ideal S256x128 .f32) (x3 : Vec Ideal S32x128 .f32) :
    Vec Ideal S50x256x128 .f32 :=
  fun y => cell (fun k => x0 (ix3 (y 0) (y 1) k)) (fun k => x2 (ix2 k (y 2))) (x1 (ix2 (y 0) (y 1))) (fun j => x3 (ix2 j (y 2)))

/-- What the body leaves in the block of the result. -/
theorem out_eq_blockFn (x0 : Vec Ideal S50x256x256 .f32) (x1 : Vec Ideal S50x256 .i32) (x2 : Vec Ideal S256x128 .f32)
    (x3 : Vec Ideal S32x128 .f32) : out0_4 x0 x1 x2 x3 = blockFn x0 x1 x2 x3 := by
  rw [out_eq_steps]
  funext y
  refine View.canon_apply_of_pieces (blockFn x0 x1 x2 x3) _ (fun q hq z => ?_) y ?_
  · obtain ⟨t, rfl⟩ : ∃ t : Fin 50, q = stepPiece x0 x1 x2 x3 t := by
      obtain ⟨i, hi⟩ := (List.mem_ofFn' _ _).1 hq
      exact ⟨i.rev, hi.symm⟩
    change (⟨3, ![1, 256, 128]⟩ : Shape).Idx at z
    obtain ⟨a, b, h, rfl⟩ : ∃ (a : Fin 1) (b : Fin 256) (h : Fin 128), z = ix3 a b h := ⟨z 0, z 1, z 2, eq_ix3 z⟩
    obtain rfl : a = 0 := Subsingleton.elim _ _
    have e : (outRect t).emb (ix3 0 b h) = ix3 t b h := by
      funext c
      apply Fin.ext
      match c with
      | ⟨0, _⟩ => show t.val + 1 * 0 = t.val; omega
      | ⟨1, _⟩ => show 0 + 1 * b.val = b.val; omega
      | ⟨2, _⟩ => show 0 + 1 * h.val = h.val; omega
    have e0 : View.ld x2 r0_0 = x2 := View.ld_unit_zero (by funext a; fin_cases a <;> rfl) _ _
    have e1 : View.ld x3 r0_1 = x3 := View.ld_unit_zero (by funext a; fin_cases a <;> rfl) _ _
    have e2 : View.ld x1 r0_2 = x1 := View.ld_unit_zero (by funext a; fin_cases a <;> rfl) _ _
    have e3 : ∀ k : Fin 256, View.ld x0 (inRect t) (ix3 0 b k) = x0 (ix3 t b k) := fun k => by
      refine congrArg x0 (funext fun c => Fin.ext ?_)
      match c with
      | ⟨0, _⟩ => show t.val + 1 * 0 = t.val; omega
      | ⟨1, _⟩ => show 0 + 1 * b.val = b.val; omega
      | ⟨2, _⟩ => show 0 + 1 * k.val = k.val; omega
    refine Eq.trans ?_ (congrArg (blockFn x0 x1 x2 x3) e.symm)
    refine (stepOut_apply (View.ld x2 r0_0) (View.ld x3 r0_1) (View.ld x1 r0_2) t (View.ld x0 (inRect t)) b h).trans ?_
    rw [e0, e1, e2]
    simp only [e3]
    rfl
  · refine ⟨stepPiece x0 x1 x2 x3 (y 0), (List.mem_ofFn' _ _).2
      ⟨(y 0 : Fin 50).rev, congrArg (stepPiece x0 x1 x2 x3) (Fin.rev_rev (y 0 : Fin 50))⟩, ?_⟩
    show y ∈ (outRect (y 0)).set
    refine Rect.mem_set_unit.2 fun c => ?_
    have h1 : (y 1).val < 256 := (y 1).isLt
    have h2 : (y 2).val < 128 := (y 2).isLt
    match c with
    | ⟨0, _⟩ => exact ⟨Nat.le_refl _, Nat.lt_succ_self _⟩
    | ⟨1, _⟩ => exact ⟨Nat.zero_le _, by show (y 1).val < 0 + 256; omega⟩
    | ⟨2, _⟩ => exact ⟨Nat.zero_le _, by show (y 2).val < 0 + 128; omega⟩

end Cert.Proof

end
-- ==== Proof.Array.lean ====
/- The result array after the run. -/
module

public import proofs.«01_k».proof.Proof.Block
public import Idealize.ShloMosaic.Lib.Pipeline.ValueKit

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ)

/-- The result array, in the kernel's layout (step, row, column). -/
def arrayFn (a0 : Vec Ideal S50x4096x256 .f32) (a1 : Vec Ideal S50x4096 .i32) (a2 : Vec Ideal S256x128 .f32) (a3 : Vec Ideal S32x128 .f32) :
    Vec Ideal S50x4096x128 .f32 :=
  fun y => cell (fun k => a0 (ix3 (y 0) (y 1) k)) (fun k => a2 (ix2 k (y 2))) (a1 (ix2 (y 0) (y 1))) (fun j => a3 (ix2 j (y 2)))

/-- Where each window's block lies at grid point `t`: the blocks of rows, of packed words and of the result move along the rows; the weights
    and the table stay. -/
theorem blockIndex : ∀ t : Fin grid0.N, win0_0.index t = ![0, t.val, 0] ∧ win0_1.index t = ![0, t.val] ∧ win0_2.index t = ![0, 0]
    ∧ win0_3.index t = ![0, 0] ∧ win0_4.index t = ![0, t.val, 0] := by decide +kernel

/-- What the run leaves in the result array: every block is the same function of the operands' blocks, and the blocks tile the array. -/
theorem arr_eq (c : Dev nD) : (dats m 0 c).arrAt 4 cfg0.N = arrayFn (V m c main_v0) (V m c main_v13) (V m c main_arg5) (V m c main_v25) := by
  refine (dats m 0 c).arrAt_eq_of_covers 4 _ (by decide +kernel) fun t hf y => ?_
  obtain ⟨h0, h1, h2, h3, h4⟩ := blockIndex t
  blk_simp
  rw [after0_4, out_eq_blockFn]
  unfold blockFn arrayFn iblk
  generalize V m c = X
  congr 1
  · funext k
    blk_ext [h0, h4]
  · funext k
    blk_ext [h2, h4]
  · blk_ext [h1, h4]
  · funext j
    blk_ext [h3, h4]

end Cert.Proof

end
-- ==== Proof.Rows.lean ====
/- Rows of a table: a gather of rows by a word per place, and a scatter of one block of rows, read at an index. -/
module

public import Idealize.ShloMosaic.Lib.Pointwise
public import Idealize.ShloMosaic.Lib.Routing.OpsSet
public import Idealize.ShloMosaic.Lib.Routing.OpsPair

@[expose] public section

noncomputable section

namespace Cert.Proof

open Idealize.ShloMosaic

/-- The dimension numbers of a lookup of rows of an `[n, d]` table by one word at each place `(a, b)`. -/
def rowDims (n d A B : ℕ)
    (wf : GatherDims.WF ⟨2, ![n, d]⟩ ⟨3, ![A, B, 1]⟩ ⟨3, ![A, B, d]⟩ [2] [0] [] [0] [] 2 ![1, d]) :
    GatherDims ⟨2, ![n, d]⟩ ⟨3, ![A, B, 1]⟩ ⟨3, ![A, B, d]⟩ where
  offsetDims := [2]
  collapsedSliceDims := [0]
  operandBatchingDims := []
  startIndicesBatchingDims := []
  startIndexMap := [0]
  indexVectorDim := 2
  sliceSizes := ![1, d]
  wf := wf

/-- Where the word at a place holds row number `r`, read signed, the lookup gives row `r`. -/
theorem gather_rowDims {α : Type} {n d A B w : ℕ} (wf : GatherDims.WF ⟨2, ![n, d]⟩ ⟨3, ![A, B, 1]⟩ ⟨3, ![A, B, d]⟩ [2] [0] [] [0] [] 2 ![1, d])
    (x : (⟨2, ![n, d]⟩ : Shape).Idx → α) (idx : IVec ⟨3, ![A, B, 1]⟩ w) (a : Fin A) (b : Fin B) (h : Fin d) (r : Fin n)
    (hr : (idx (ix3 a b 0)).toInt = (r.val : ℤ)) :
    Host.gather (rowDims n d A B wf) x idx (ix3 a b h) = x (ix2 r h) := by
  unfold Host.gather
  refine congrArg x (funext fun c => Fin.ext ?_)
  have hs : (rowDims n d A B wf).siIdx (ix3 a b h) ⟨0, Nat.zero_lt_one⟩ = ix3 a b 0 := by
    funext e
    match e with
    | ⟨0, _⟩ => rfl
    | ⟨1, _⟩ => rfl
    | ⟨2, _⟩ => rfl
  match c with
  | ⟨0, _⟩ =>
    show min (idx ((rowDims n d A B wf).siIdx (ix3 a b h) ⟨0, Nat.zero_lt_one⟩)).toInt.toNat (n - 1) + 0 + 0 = r.val
    rw [hs, hr]
    have := r.isLt
    omega
  | ⟨1, _⟩ =>
    show 0 + 0 + h.val = h.val
    omega

/-- The dimension numbers of a store of a `[k, d]` block of rows into an `[n, d]` table at one row number. -/
def blockDims (n d k : ℕ) (wf : ScatterDims.WF ⟨2, ![n, d]⟩ ⟨1, ![1]⟩ ⟨2, ![k, d]⟩ [0, 1] [] [0] 0) :
    ScatterDims ⟨2, ![n, d]⟩ ⟨1, ![1]⟩ ⟨2, ![k, d]⟩ where
  updateWindowDims := [0, 1]
  insertedWindowDims := []
  scatterDimsToOperandDims := [0]
  indexVectorDim := 0
  wf := wf

/-- Where a row of the block lands. -/
theorem blockDims_lands {n d k w : ℕ} (wf : ScatterDims.WF ⟨2, ![n, d]⟩ ⟨1, ![1]⟩ ⟨2, ![k, d]⟩ [0, 1] [] [0] 0)
    (idx : IVec ⟨1, ![1]⟩ w) (o : ℕ) (ho : ∀ i, (idx i).toInt = (o : ℤ)) (i : Fin k) (g : Fin d) (r : Fin n) (h : Fin d) :
    (blockDims n d k wf).resultIdx? (ix2 i g) idx = some (ix2 r h) ↔ o + i.val = r.val ∧ g = h := by
  rw [Routing.resultIdx?_eq_some]
  have h0 : (blockDims n d k wf).start (ix2 i g) idx 0 = (o : ℤ) := ho _
  have h1 : (blockDims n d k wf).start (ix2 i g) idx 1 = 0 := rfl
  have w0 : (blockDims n d k wf).window (ix2 i g) 0 = i.val := rfl
  have w1 : (blockDims n d k wf).window (ix2 i g) 1 = g.val := rfl
  constructor
  · intro q
    have q0 := q 0
    have q1 := q 1
    rw [h0, w0] at q0
    rw [h1, w1] at q1
    change (o : ℤ) + i.val = (r.val : ℤ) at q0
    change (0 : ℤ) + g.val = (h.val : ℤ) at q1
    exact ⟨by omega, Fin.ext (by omega)⟩
  · rintro ⟨q0, rfl⟩ c
    match c with
    | ⟨0, _⟩ => exact (congrArg₂ (fun (u : ℤ) (v : ℕ) => u + (v : ℤ)) h0 w0).trans (by show (o : ℤ) + i.val = (r.val : ℤ); omega)
    | ⟨1, _⟩ => exact (congrArg₂ (fun (u : ℤ) (v : ℕ) => u + (v : ℤ)) h1 w1).trans (by show (0 : ℤ) + g.val = (g.val : ℤ); omega)

/-- The table after the store, at a row of the block: the block's row. -/
theorem scatter_block_hit {α : Type} {n d k w : ℕ} (wf : ScatterDims.WF ⟨2, ![n, d]⟩ ⟨1, ![1]⟩ ⟨2, ![k, d]⟩ [0, 1] [] [0] 0)
    (x : (⟨2, ![n, d]⟩ : Shape).Idx → α) (idx : IVec ⟨1, ![1]⟩ w) (u : (⟨2, ![k, d]⟩ : Shape).Idx → α)
    (o : ℕ) (ho : ∀ i, (idx i).toInt = (o : ℤ)) (i : Fin k) (r : Fin n) (h : Fin d) (hr : o + i.val = r.val) :
    Host.scatter (blockDims n d k wf) (fun _ b => b) x idx u (ix2 r h) = u (ix2 i h) := by
  refine Routing.scatter_set_hit _ _ _ _ _ _ (fun q hq => ?_) (ix2 i h) ((blockDims_lands wf idx o ho i h r h).2 ⟨hr, rfl⟩)
  obtain ⟨i', g, rfl⟩ : ∃ (i' : Fin k) (g : Fin d), q = ix2 i' g := ⟨q 0, q 1, eq_ix2 q⟩
  obtain ⟨e, rfl⟩ := (blockDims_lands wf idx o ho i' g r h).1 hq
  obtain rfl : i' = i := Fin.ext (by omega)
  rfl

/-- The table after the store, at a row outside the block: as before. -/
theorem scatter_block_miss {α : Type} {n d k w : ℕ} (wf : ScatterDims.WF ⟨2, ![n, d]⟩ ⟨1, ![1]⟩ ⟨2, ![k, d]⟩ [0, 1] [] [0] 0)
    (x : (⟨2, ![n, d]⟩ : Shape).Idx → α) (idx : IVec ⟨1, ![1]⟩ w) (u : (⟨2, ![k, d]⟩ : Shape).Idx → α)
    (o : ℕ) (ho : ∀ i, (idx i).toInt = (o : ℤ)) (r : Fin n) (h : Fin d) (hr : r.val < o ∨ o + k ≤ r.val) :
    Host.scatter (blockDims n d k wf) (fun _ b => b) x idx u (ix2 r h) = x (ix2 r h) := by
  refine Routing.scatter_set_miss _ _ _ _ _ fun q hq => ?_
  obtain ⟨i', g, rfl⟩ : ∃ (i' : Fin k) (g : Fin d), q = ix2 i' g := ⟨q 0, q 1, eq_ix2 q⟩
  have e := ((blockDims_lands wf idx o ho i' g r h).1 hq).1
  have := i'.isLt
  omega

end Cert.Proof

end
-- ==== Proof.Words.lean ====
/- Packed words: three row numbers in one word, taken apart again by the kernel, and the row of zeros and ones they make. -/
module

public import proofs.«01_k».proof.Proof.Block

@[expose] public section

set_option maxRecDepth 16384

noncomputable section

namespace Cert.Proof

open Idealize.ShloMosaic

/-- Three words packed into one: the second shifted by 3 bits, the third by 6. -/
def pack (x y z : BitVec 32) : BitVec 32 :=
  IntOp.addi (IntOp.addi x (IntOp.shli .host y 3#32)) (IntOp.shli .host z 6#32)

/-- The three fields of a packed word, each below 7, as the kernel takes them out (the last two moved to their part of the table). -/
theorem fields (a b c : Fin 7) :
    IntOp.andi (pack (BitVec.ofNat 32 a.val) (BitVec.ofNat 32 b.val) (BitVec.ofNat 32 c.val)) 7#32 = BitVec.ofNat 32 a.val
    ∧ IntOp.addi (IntOp.andi (IntOp.shrsi .vector (pack (BitVec.ofNat 32 a.val) (BitVec.ofNat 32 b.val) (BitVec.ofNat 32 c.val)) 3#32) 7#32) 8#32
        = BitVec.ofNat 32 (8 + b.val)
    ∧ IntOp.addi (IntOp.andi (IntOp.shrsi .vector (pack (BitVec.ofNat 32 a.val) (BitVec.ofNat 32 b.val) (BitVec.ofNat 32 c.val)) 6#32) 7#32) 16#32
        = BitVec.ofNat 32 (16 + c.val) := by
  revert a b c
  decide +kernel

/-- Two small numbers have the same word only when they are equal. -/
theorem eqBit (j n : ℕ) (hj : j < 32) (hn : n < 32) :
    IntOp.cmpi .eq (BitVec.ofNat 32 j) (BitVec.ofNat 32 n) = BitVec.ofBool (decide (j = n)) := by
  have : (BitVec.ofNat 32 j = BitVec.ofNat 32 n) ↔ j = n := by
    constructor
    · intro h
      have := congrArg BitVec.toNat h
      simp only [BitVec.toNat_ofNat] at this
      omega
    · rintro rfl; rfl
  show BitVec.ofBool (BitVec.ofNat 32 j == BitVec.ofNat 32 n) = _
  refine congrArg BitVec.ofBool ?_
  rw [Bool.eq_iff_iff, beq_iff_eq, decide_eq_true_iff]
  exact this

/-- The «or» of two bits that say `p` and `q` says `p ∨ q`. -/
theorem orBit (p q : Prop) [Decidable p] [Decidable q] :
    IntOp.ori (BitVec.ofBool (decide p)) (BitVec.ofBool (decide q)) = BitVec.ofBool (decide (p ∨ q)) := by
  rw [Bool.decide_or]
  cases decide p <;> cases decide q <;> rfl

/-- The columns that a packed word names are its three fields' columns. -/
theorem named_pack (a b c : Fin 7) (j : Fin 32) :
    named (pack (BitVec.ofNat 32 a.val) (BitVec.ofNat 32 b.val) (BitVec.ofNat 32 c.val)) j
      = BitVec.ofBool (decide (j.val = a.val ∨ j.val = 8 + b.val ∨ j.val = 16 + c.val)) := by
  obtain ⟨h0, h1, h2⟩ := fields a b c
  have := a.isLt
  have := b.isLt
  have := c.isLt
  unfold named
  rw [h0, h1, h2, eqBit _ _ j.isLt (by omega), eqBit _ _ j.isLt (by omega), eqBit _ _ j.isLt (by omega)]
  rw [orBit, orBit]
  simp only [or_assoc]

/-- A bit as a number: one or zero. -/
theorem bit_val (p : Prop) [Decidable p] :
    (FloatOps.sitofp .f32 (BitVec.setWidth 32 (BitVec.ofBool (decide p))) : Ideal .f32) = if p then (1 : EReal) else 0 := by
  by_cases h : p
  · rw [if_pos h, decide_eq_true h]
    show (((1 : ℤ) : ℝ) : EReal) = 1
    norm_num
  · rw [if_neg h, decide_eq_false h]
    show (((0 : ℤ) : ℝ) : EReal) = 0
    norm_num

/-- The row of zeros and ones times a column of the table is the sum of the three entries that the word names. -/
theorem sum_named (a b c : Fin 7) (T : Fin 32 → EReal) :
    ∑ j, (FloatOps.sitofp .f32 (BitVec.setWidth 32
        (named (pack (BitVec.ofNat 32 a.val) (BitVec.ofNat 32 b.val) (BitVec.ofNat 32 c.val)) j)) : Ideal .f32) * T j
      = T ⟨a.val, by omega⟩ + T ⟨8 + b.val, by omega⟩ + T ⟨16 + c.val, by omega⟩ := by
  have one : ∀ (i : Fin 32), ∑ j : Fin 32, (if j = i then T j else 0) = T i := fun i => by
    rw [Finset.sum_ite_eq' Finset.univ i T, if_pos (Finset.mem_univ i)]
  rw [← one ⟨a.val, by omega⟩, ← one ⟨8 + b.val, by omega⟩, ← one ⟨16 + c.val, by omega⟩, ← Finset.sum_add_distrib, ← Finset.sum_add_distrib]
  refine Finset.sum_congr rfl fun j _ => ?_
  rw [named_pack, bit_val]
  simp only [Fin.ext_iff]
  have := a.isLt
  have := b.isLt
  have := c.isLt
  by_cases p : j.val = a.val
  · rw [if_pos (Or.inl p), if_pos p, if_neg (by omega), if_neg (by omega), one_mul, add_zero, add_zero]
  · by_cases q : j.val = 8 + b.val
    · rw [if_pos (Or.inr (Or.inl q)), if_neg p, if_pos q, if_neg (by omega), one_mul, add_zero, zero_add]
    · by_cases r : j.val = 16 + c.val
      · rw [if_pos (Or.inr (Or.inr r)), if_neg p, if_neg q, if_pos r, one_mul, add_zero, zero_add]
      · rw [if_neg (by omega), if_neg p, if_neg q, if_neg r, zero_mul, add_zero, add_zero]

end Cert.Proof

end
-- ==== Proof.Host.lean ====
/- The operands that the launch is given: the rows with steps first, the three row numbers packed in one word, and the three tables
   stacked in one; and the result after the launch, its axes put back. -/
module

public import proofs.«01_k».proof.Proof.Array
public import proofs.«01_k».proof.Proof.Rows
public import proofs.«01_k».proof.Proof.Words
public import Idealize.ShloMosaic.Lib.StableHlo.ReadAt

@[expose] public section

set_option maxRecDepth 16384

noncomputable section

namespace Cert.Proof

open Idealize.ShloMosaic Idealize.ShloMosaic.TcCoe Idealize.SL.Sem
open Cert.KernelIdeal Cert.KernelIdeal.Gen

/-- A block of 7 rows stored into the stacked table at row `o`. -/
def stack (o : BitVec 32) (x : Vec Ideal S32x128 .f32) (u : Vec Ideal S7x128 .f32) : Vec Ideal S32x128 .f32 :=
  Host.scatter scatter_S32x128_S1_S7x128_01_n_0_0 (fun _ b => b) x (broadcastInDim S1 ![] bcast_S_S1 (constantI S_ 32 o)) u

/-- The stacked table at a row of the block just stored. -/
theorem stack_hit (o : ℕ) (ho : (BitVec.ofNat 32 o).toInt = (o : ℤ)) (x : Vec Ideal S32x128 .f32) (u : Vec Ideal S7x128 .f32)
    (i : Fin 7) (r : Fin 32) (h : Fin 128) (hr : o + i.val = r.val) : stack (BitVec.ofNat 32 o) x u (ix2 r h) = u (ix2 i h) :=
  scatter_block_hit scatter_S32x128_S1_S7x128_01_n_0_0_wf x _ u o (fun _ => ho) i r h hr

/-- The stacked table at any other row: as before. -/
theorem stack_miss (o : ℕ) (ho : (BitVec.ofNat 32 o).toInt = (o : ℤ)) (x : Vec Ideal S32x128 .f32) (u : Vec Ideal S7x128 .f32)
    (r : Fin 32) (h : Fin 128) (hr : r.val < o ∨ o + 7 ≤ r.val) : stack (BitVec.ofNat 32 o) x u (ix2 r h) = x (ix2 r h) :=
  scatter_block_miss scatter_S32x128_S1_S7x128_01_n_0_0_wf x _ u o (fun _ => ho) r h hr

/-- The three tables stacked: the first with the bias added to each row, then the first 7 rows of the other two. -/
def stacked (e2 : Vec Ideal S7x128 .f32) (e3 : Vec Ideal S48x128 .f32) (e4 : Vec Ideal S1000x128 .f32) (e6 : Vec Ideal S128 .f32) :
    Vec Ideal S32x128 .f32 :=
  stack 16#32
    (stack 8#32
      (stack 0#32 (broadcastInDim S32x128 ![] bcast_S_S32x128 (constant (F := Ideal) S_ .f32 0#32))
        (addf (F := Ideal) (φ := .f32) e2 (broadcastInDim S7x128 ![0, 1] bcast_S1x128_S7x128_0_1 (broadcastInDim S1x128 ![1] bcast_S128_S1x128_1 e6))))
      (extractStridedSlice S7x128 ![0, 0] e3 slices_S48x128_S7x128_0_0))
    (extractStridedSlice S7x128 ![0, 0] e4 slices_S1000x128_S7x128_0_0)

section
variable (e2 : Vec Ideal S7x128 .f32) (e3 : Vec Ideal S48x128 .f32) (e4 : Vec Ideal S1000x128 .f32) (e6 : Vec Ideal S128 .f32)

/-- Rows 0 to 6 of the stacked table. -/
theorem stacked_first (a : Fin 7) (h : Fin 128) :
    stacked e2 e3 e4 e6 (ix2 ⟨a.val, by omega⟩ h) = (e2 (ix2 a h) + e6 (ix1 h) : EReal) := by
  have := a.isLt
  unfold stacked
  refine (stack_miss 16 rfl _ _ ⟨a.val, by omega⟩ h (by dsimp only; omega)).trans ?_
  refine (stack_miss 8 rfl _ _ ⟨a.val, by omega⟩ h (by dsimp only; omega)).trans ?_
  refine (stack_hit 0 rfl _ _ a ⟨a.val, by omega⟩ h (by dsimp only; omega)).trans ?_
  pointwise

/-- Rows 8 to 14. -/
theorem stacked_second (b : Fin 7) (h : Fin 128) : stacked e2 e3 e4 e6 (ix2 ⟨8 + b.val, by omega⟩ h) = e3 (ix2 ⟨b.val, by omega⟩ h) := by
  have := b.isLt
  unfold stacked
  refine (stack_miss 16 rfl _ _ ⟨8 + b.val, by omega⟩ h (by dsimp only; omega)).trans ?_
  refine (stack_hit 8 rfl _ _ b ⟨8 + b.val, by omega⟩ h rfl).trans ?_
  pointwise

/-- Rows 16 to 22. -/
theorem stacked_third (c : Fin 7) (h : Fin 128) : stacked e2 e3 e4 e6 (ix2 ⟨16 + c.val, by omega⟩ h) = e4 (ix2 ⟨c.val, by omega⟩ h) := by
  unfold stacked
  refine (stack_hit 16 rfl _ _ c ⟨16 + c.val, by omega⟩ h rfl).trans ?_
  pointwise

end

variable (m : (ℓ : Loc nD τ sig) → Buf (Elt Ideal) ℓ)

/-- The rows as the launch finds them. -/
theorem rows_eq (c : Dev nD) (b : Fin 50) (a : Fin 4096) (k : Fin 256) :
    (V m c main_v0 : Vec Ideal S50x4096x256 .f32) (ix3 b a k) = (m ((c.tc : Thread nD τ).loc main_arg0) : Vec Ideal S4096x50x256 .f32) (ix3 a b k) := by
  unfold V V0
  after_reads_at

/-- The packed words as the launch finds them. -/
theorem words_eq (c : Dev nD) (b : Fin 50) (a : Fin 4096) (x : Vec Ideal S4096x50x3 .i32) (hx : m ((c.tc : Thread nD τ).loc main_arg1) = x) :
    (V m c main_v13 : Vec Ideal S50x4096 .i32) (ix2 b a) = pack (x (ix3 a b 0)) (x (ix3 a b 1)) (x (ix3 a b 2)) := by
  subst hx
  unfold V V0
  after_reads_at
  rfl

/-- The table as the launch finds it. -/
theorem table_eq (c : Dev nD) : (V m c main_v25 : Vec Ideal S32x128 .f32)
    = stacked (m ((c.tc : Thread nD τ).loc main_arg2)) (m ((c.tc : Thread nD τ).loc main_arg3)) (m ((c.tc : Thread nD τ).loc main_arg4))
        (m ((c.tc : Thread nD τ).loc main_arg6)) := by
  funext y
  unfold V V0
  after_reads_at
  rfl

/-- The result after the launch and the transpose that follows it. -/
theorem tail_eq (c : Dev nD) (a : Fin 4096) (b : Fin 50) (h : Fin 128) :
    (Pipeline.afterTail₀ cfgs (dats m) 0 (V0 m) [hostOps1] c main_v27 : Vec Ideal S4096x50x128 .f32) (ix3 a b h)
      = (dats m 0 c).arrAt 4 cfg0.N (ix3 b a h) := by
  have e := Pipeline.withArrays_arr spec0 launch0.win.arr_inj c (V0 m c) (fun w => (dats m 0 c).arrAt w cfg0.N) 4
  unfold Pipeline.afterTail₀
  after_reads_at
  exact congrFun e (ix3 b a h)

end Cert.Proof

end
-- ==== Proof.Reference.lean ====
/- The reference's result at an index, where every row number is in range: a product with the weights, the bias, and one row of each
   of the three tables. -/
module

public import proofs.«01_k».proof.Defs
public import proofs.«01_k».proof.Proof.Gen.ReferenceIdeal.Run
public import proofs.«01_k».proof.Proof.Gen.Pre_indices_in_range
public import proofs.«01_k».proof.Proof.Rows
public import Idealize.ShloMosaic.Lib.Pointwise
public import Idealize.ShloMosaic.Lib.ReduceAll
public import Idealize.ShloMosaic.Lib.Affine

@[expose] public section

set_option maxRecDepth 16384

noncomputable section

namespace Cert.Proof

open Idealize.ShloMosaic Idealize.ShloMosaic.TcCoe Idealize.SL.Sem
open Cert.ReferenceIdeal Cert.ReferenceIdeal.Gen

/-- The row numbers as the lookup reads them: a negative one counted from the table's end. -/
def wrapped (n : BitVec 32) (x : IVec S4096x50 32) : IVec S4096x50x1 32 :=
  broadcastInDim S4096x50x1 ![0, 1] bcast_S4096x50_S4096x50x1_0_1
    (select (cmpi .slt x (broadcastInDim S4096x50 ![] bcast_S_S4096x50 (constantI S_ 32 0#32)))
      (addi x (broadcastInDim S4096x50 ![] bcast_S_S4096x50 (constantI S_ 32 n))) x)

/-- One lookup of the reference: the rows of `tbl` at the row numbers `x`, and a fixed value where a number is out of range. -/
def lookup {n : ℕ} (d : GatherDims ⟨2, ![n, 128]⟩ S4096x50x1 S4096x50x128) (len last : BitVec 32) (x : IVec S4096x50 32)
    (tbl : FVec Ideal ⟨2, ![n, 128]⟩ .f32) : FVec Ideal S4096x50x128 .f32 :=
  select
    (broadcastInDim S4096x50x128 ![0, 1] bcast_S4096x50_S4096x50x128_0_1
      (Host.reduce IntOp.andi
        (andi (cmpi .sge (wrapped len x) (broadcastInDim S4096x50x1 ![] bcast_S_S4096x50x1 (constantI S_ 32 0#32)))
          (cmpi .sle (wrapped len x) (broadcastInDim S4096x50x1 ![0, 1, 2] bcast_S1x1x1_S4096x50x1_0_1_2
            (broadcastInDim S1x1x1 ![2] bcast_S1_S1x1x1_2 (constantI S1 32 last)))))
        (constantI S_ 1 1#1) reducesTo_S4096x50x1_S4096x50_d2 h_S_))
    (Host.gather d tbl (wrapped len x))
    (broadcastInDim S4096x50x128 ![] bcast_S_S4096x50x128 (constant S_ .f32 0x7FC00000#32))

/-- A row number in range is read as it is. -/
theorem wrapped_apply (n : BitVec 32) (x : IVec S4096x50 32) (a : Fin 4096) (b : Fin 50) (r : Fin 7)
    (hx : x (ix2 a b) = BitVec.ofNat 32 r.val) : wrapped n x (ix3 a b 0) = BitVec.ofNat 32 r.val := by
  pointwise [wrapped]
  rw [hx]
  have small : ∀ r : Fin 7, IntOp.cmpi .slt (BitVec.ofNat 32 r.val) 0#32 = 0#1 := by decide
  rw [small r]
  rfl

/-- A choice whose condition holds at an index takes its first array's value there. -/
theorem select_chosen {s : Shape} {α : Type} (c : IVec s 1) (x y : s.Idx → α) (i : s.Idx) (hc : c i = 1#1) : select c x y i = x i := by
  show Scalar.select (c i) (x i) (y i) = x i
  rw [hc]
  rfl

/-- A lookup whose row numbers are all below 7 gives the rows. -/
theorem lookup_apply {n : ℕ} (wf : GatherDims.WF ⟨2, ![n, 128]⟩ ⟨3, ![4096, 50, 1]⟩ ⟨3, ![4096, 50, 128]⟩ [2] [0] [] [0] [] 2 ![1, 128])
    (len last : BitVec 32) (hlast : (6 : ℤ) ≤ last.toInt) (hn : 7 ≤ n) (x : IVec S4096x50 32) (row : Fin 4096 → Fin 50 → Fin 7)
    (hx : ∀ a b, x (ix2 a b) = BitVec.ofNat 32 (row a b).val) (tbl : FVec Ideal ⟨2, ![n, 128]⟩ .f32)
    (a : Fin 4096) (b : Fin 50) (h : Fin 128) :
    lookup (rowDims n 128 4096 50 wf) len last x tbl (ix3 a b h) = tbl (ix2 ⟨(row a b).val, by have := (row a b).isLt; omega⟩ h) := by
  have toInt : ∀ r : Fin 7, (BitVec.ofNat 32 r.val).toInt = (r.val : ℤ) := by decide
  have inRange : Host.reduce IntOp.andi
        (andi (cmpi .sge (wrapped len x) (broadcastInDim S4096x50x1 ![] bcast_S_S4096x50x1 (constantI S_ 32 0#32)))
          (cmpi .sle (wrapped len x) (broadcastInDim S4096x50x1 ![0, 1, 2] bcast_S1x1x1_S4096x50x1_0_1_2
            (broadcastInDim S1x1x1 ![2] bcast_S1_S1x1x1_2 (constantI S1 32 last)))))
        (constantI S_ 1 1#1) reducesTo_S4096x50x1_S4096x50_d2 h_S_ (ix2 a b) = 1#1 := by
    refine Host.reduce_andi_one _ _ _ _ _ rfl fun i => ?_
    obtain ⟨a', b', z, rfl⟩ : ∃ (a' : Fin 4096) (b' : Fin 50) (z : Fin 1), i = ix3 a' b' z := ⟨i 0, i 1, i 2, eq_ix3 i⟩
    obtain rfl : z = 0 := Subsingleton.elim _ _
    pointwise
    rw [wrapped_apply len x a' b' _ (hx a' b')]
    refine IntOp.andi_eq_one.2 ⟨IntOp.cmpi_sge.2 ?_, IntOp.cmpi_sle.2 ?_⟩
    · rw [toInt]
      exact Int.natCast_nonneg _
    · rw [toInt]
      have := (row a' b').isLt
      omega
  have hg := gather_rowDims wf tbl (wrapped len x) a b h ⟨(row a b).val, by have := (row a b).isLt; omega⟩
    (by rw [wrapped_apply len x a b _ (hx a b), toInt])
  have hmask := (Eq.trans (by pointwise) inRange : broadcastInDim S4096x50x128 ![0, 1] bcast_S4096x50_S4096x50x128_0_1
      (Host.reduce IntOp.andi
        (andi (cmpi .sge (wrapped len x) (broadcastInDim S4096x50x1 ![] bcast_S_S4096x50x1 (constantI S_ 32 0#32)))
          (cmpi .sle (wrapped len x) (broadcastInDim S4096x50x1 ![0, 1, 2] bcast_S1x1x1_S4096x50x1_0_1_2
            (broadcastInDim S1x1x1 ![2] bcast_S1_S1x1x1_2 (constantI S1 32 last)))))
        (constantI S_ 1 1#1) reducesTo_S4096x50x1_S4096x50_d2 h_S_) (ix3 a b h) = 1#1)
  exact (select_chosen _ _ _ _ hmask).trans hg

/-- One row number of each triple. -/
def numbers (off : Fin 3 → ℕ) (hs : S4096x50x3.Slices off S4096x50x1) (p : IVec S4096x50x3 32) : IVec S4096x50 32 :=
  shapeCast S4096x50 (extractStridedSlice S4096x50x1 off p hs) shapeCasts_S4096x50x1_S4096x50

/-- One row number of each triple, at an index. -/
theorem numbers_apply (z : Fin 3) (hs : S4096x50x3.Slices ![0, 0, z.val] S4096x50x1) (p : IVec S4096x50x3 32) (a : Fin 4096) (b : Fin 50) :
    numbers ![0, 0, z.val] hs p (ix2 a b) = p (ix3 a b z) := by
  pointwise [numbers]

/-- The weights' product and the bias. -/
def projected (x : FVec Ideal S4096x50x256 .f32) (w : FVec Ideal S256x128 .f32) (bias : FVec Ideal S128 .f32) : FVec Ideal S4096x50x128 .f32 :=
  addf (F := Ideal) (φ := .f32) (Host.dotGeneral dot_S4096x50x256_S256x128_S4096x50x128_2_0_01_1_n_n none x w)
    (broadcastInDim S4096x50x128 ![0, 1, 2] bcast_S1x1x128_S4096x50x128_0_1_2 (broadcastInDim S1x1x128 ![2] bcast_S128_S1x1x128_2 bias))

/-- The product and the bias at an index. -/
theorem projected_apply (x : FVec Ideal S4096x50x256 .f32) (w : FVec Ideal S256x128 .f32) (bias : FVec Ideal S128 .f32)
    (a : Fin 4096) (b : Fin 50) (h : Fin 128) :
    projected x w bias (ix3 a b h) = ((∑ k : Fin 256, x (ix3 a b k) * w (ix2 k h)) + bias (ix1 h) : EReal) := by
  pointwise [projected, dot_S4096x50x256_S256x128_S4096x50x128_2_0_01_1_n_n]

/-- The reference's result as a function of its arguments. -/
def reference (x : FVec Ideal S4096x50x256 .f32) (p : IVec S4096x50x3 32) (e2 : FVec Ideal S7x128 .f32) (e3 : FVec Ideal S48x128 .f32)
    (e4 : FVec Ideal S1000x128 .f32) (w : FVec Ideal S256x128 .f32) (bias : FVec Ideal S128 .f32) : FVec Ideal S4096x50x128 .f32 :=
  addf (F := Ideal) (φ := .f32)
    (addf (F := Ideal) (φ := .f32)
      (addf (F := Ideal) (φ := .f32) (projected x w bias)
        (lookup gather_S7x128_S4096x50x1_S4096x50x128_2_0_n_n_0_2_1128 7#32 6#32
          (numbers ![0, 0, 0] slices_S4096x50x3_S4096x50x1_0_0_0 p) e2))
      (lookup gather_S48x128_S4096x50x1_S4096x50x128_2_0_n_n_0_2_1128 48#32 47#32
        (numbers ![0, 0, 1] slices_S4096x50x3_S4096x50x1_0_0_1 p) e3))
    (lookup gather_S1000x128_S4096x50x1_S4096x50x128_2_0_n_n_0_2_1128 1000#32 999#32
      (numbers ![0, 0, 2] slices_S4096x50x3_S4096x50x1_0_0_2 p) e4)

/-- What the reference's run leaves is that function of what it was given. -/
theorem res_eq_reference (m : (ℓ : Loc nD τ sig) → Buf (Elt Ideal) ℓ) (c : Dev nD) :
    (Value.res_main_v15 m c : FVec Ideal S4096x50x128 .f32)
      = reference (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := rfl

/-- The reference's result at an index, where every row number is below 7. -/
theorem reference_apply (x : FVec Ideal S4096x50x256 .f32) (p : IVec S4096x50x3 32) (e2 : FVec Ideal S7x128 .f32)
    (e3 : FVec Ideal S48x128 .f32) (e4 : FVec Ideal S1000x128 .f32) (w : FVec Ideal S256x128 .f32) (bias : FVec Ideal S128 .f32)
    (row : Fin 4096 → Fin 50 → Fin 3 → Fin 7) (hp : ∀ a b z, p (ix3 a b z) = BitVec.ofNat 32 (row a b z).val)
    (a : Fin 4096) (b : Fin 50) (h : Fin 128) :
    reference x p e2 e3 e4 w bias (ix3 a b h)
      = ((((∑ k : Fin 256, x (ix3 a b k) * w (ix2 k h)) + bias (ix1 h)) + e2 (ix2 (row a b 0) h))
          + e3 (ix2 ⟨(row a b 1).val, by have := (row a b 1).isLt; omega⟩ h)
          + e4 (ix2 ⟨(row a b 2).val, by have := (row a b 2).isLt; omega⟩ h) : EReal) := by
  have rows : ∀ (z : Fin 3) (hs : S4096x50x3.Slices ![0, 0, z.val] S4096x50x1) a b,
      numbers ![0, 0, z.val] hs p (ix2 a b) = BitVec.ofNat 32 (row a b z).val :=
    fun z hs a b => (numbers_apply z hs p a b).trans (hp a b z)
  have l0 := lookup_apply gather_S7x128_S4096x50x1_S4096x50x128_2_0_n_n_0_2_1128_wf 7#32 6#32 (by decide) (by decide) _ _ (rows 0 slices_S4096x50x3_S4096x50x1_0_0_0) e2 a b h
  have l1 := lookup_apply gather_S48x128_S4096x50x1_S4096x50x128_2_0_n_n_0_2_1128_wf 48#32 47#32 (by decide) (by decide) _ _ (rows 1 slices_S4096x50x3_S4096x50x1_0_0_1) e3 a b h
  have l2 := lookup_apply gather_S1000x128_S4096x50x1_S4096x50x128_2_0_n_n_0_2_1128_wf 1000#32 999#32 (by decide) (by decide) _ _ (rows 2 slices_S4096x50x3_S4096x50x1_0_0_2) e4 a b h
  exact congrArg₂ (fun u v : EReal => u + v) (congrArg₂ (fun u v : EReal => u + v)
    (congrArg₂ (fun u v : EReal => u + v) (projected_apply x w bias a b h) l0) l1) l2

/-- What the precondition says: every row number is one of 0, …, 6. -/
theorem small_of_pre (x : FVec Ideal S4096x50x256 .f32) (p : IVec S4096x50x3 32) (e2 : FVec Ideal S7x128 .f32)
    (e3 : FVec Ideal S48x128 .f32) (e4 : FVec Ideal S1000x128 .f32) (w : FVec Ideal S256x128 .f32) (bias : FVec Ideal S128 .f32)
    (hpre : Cert.Pre_indices_in_range.fn (F := Ideal) x p e2 e3 e4 w bias = fun _ => 1#1) :
    ∃ row : Fin 4096 → Fin 50 → Fin 3 → Fin 7, ∀ a b z, p (ix3 a b z) = BitVec.ofNat 32 (row a b z).val := by
  have each : ∀ a b z, ∃ r : Fin 7, p (ix3 a b z) = BitVec.ofNat 32 r.val := fun a b z => by
    have one := Host.reduce_andi_all _ _ _ _ _ (congrFun hpre default) (ix3 a b z)
    obtain ⟨lo, hi⟩ := IntOp.andi_eq_one.1 one
    have lo' : (0#32).toInt ≤ (p (ix3 a b z)).toInt := IntOp.cmpi_sge.1 lo
    have hi' : (p (ix3 a b z)).toInt < (7#32).toInt := IntOp.cmpi_slt.1 hi
    generalize p (ix3 a b z) = q at lo' hi'
    have h0 : (0#32).toInt = 0 := by decide
    have h7 : (7#32).toInt = 7 := by decide
    refine ⟨⟨q.toInt.toNat, by omega⟩, ?_⟩
    apply BitVec.eq_of_toInt_eq
    have small : ∀ r : Fin 7, (BitVec.ofNat 32 r.val).toInt = (r.val : ℤ) := by decide
    rw [small ⟨q.toInt.toNat, by omega⟩]
    show q.toInt = ((q.toInt.toNat : ℕ) : ℤ)
    omega
  choose row hrow using each
  exact ⟨row, hrow⟩

end Cert.Proof

end
-- ==== Proof.Result.lean ====
/- The kernel's result is the reference's: both are, at an index, a row times a column, a bias, and one row of each of the three
   tables; only the order of the additions differs. -/
module

public import proofs.«01_k».proof.Proof.Host
public import proofs.«01_k».proof.Proof.Reference

@[expose] public section

set_option maxRecDepth 16384

noncomputable section

namespace Cert.Proof

open Idealize.ShloMosaic Idealize.ShloMosaic.TcCoe Idealize.SL.Sem
open Cert.KernelIdeal Cert.KernelIdeal.Gen

/-- A packed word's element: the row times the column, then the three rows that the word names. -/
theorem cell_pack (row col : Fin 256 → EReal) (p : BitVec 32) (x y z : Fin 7)
    (hp : p = pack (BitVec.ofNat 32 x.val) (BitVec.ofNat 32 y.val) (BitVec.ofNat 32 z.val)) (tbl : Fin 32 → EReal) :
    cell row col p tbl
      = (∑ k, row k * col k) + (tbl ⟨x.val, by omega⟩ + tbl ⟨8 + y.val, by omega⟩ + tbl ⟨16 + z.val, by omega⟩) := by
  subst hp
  exact congrArg (fun u : EReal => (∑ k, row k * col k) + u) (sum_named x y z tbl)

/-- The two orders of the additions. -/
theorem reorder (s bias d t l : EReal) : s + (d + bias + t + l) = s + bias + d + t + l := by
  rw [add_comm d bias]
  simp only [add_assoc]

variable (m : (ℓ : Loc nD τ sig) → Buf (Elt Ideal) ℓ)

/-- The kernel's result at an index, where every row number is below 7. -/
theorem result_apply (c : Dev nD) (row : Fin 4096 → Fin 50 → Fin 3 → Fin 7) (p : Vec Ideal S4096x50x3 .i32)
    (harg : m ((c.tc : Thread nD τ).loc main_arg1) = p) (hp : ∀ a b z, p (ix3 a b z) = BitVec.ofNat 32 (row a b z).val)
    (a : Fin 4096) (b : Fin 50) (h : Fin 128) :
    (Pipeline.afterTail₀ cfgs (dats m) 0 (V0 m) [hostOps1] c main_v27 : Vec Ideal S4096x50x128 .f32) (ix3 a b h)
      = reference (m ((c.tc : Thread nD τ).loc main_arg0)) p (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (ix3 a b h) := by
  have hword := words_eq m c b a p harg
  rw [hp, hp, hp] at hword
  refine (tail_eq m c a b h).trans ?_
  refine (congrFun (arr_eq m c) (ix3 b a h)).trans ?_
  refine (cell_pack _ _ _ _ _ _ hword _).trans ?_
  have product := fun k : Fin 256 =>
    congrArg₂ (fun u v : EReal => u * v) (rows_eq m c b a k) (congrFun (V_main_arg5 m c) (ix2 k h))
  have first := (congrFun (table_eq m c) _).trans (stacked_first _ _ _ _ (row a b 0) h)
  have second := (congrFun (table_eq m c) _).trans (stacked_second _ _ _ _ (row a b 1) h)
  have third := (congrFun (table_eq m c) _).trans (stacked_third _ _ _ _ (row a b 2) h)
  refine (congrArg₂ (fun u v : EReal => u + v) (Finset.sum_congr rfl fun k _ => product k)
    (congrArg₂ (fun u v : EReal => u + v) (congrArg₂ (fun u v : EReal => u + v) first second) third)).trans ?_
  exact (reorder _ _ _ _ _).trans (reference_apply _ _ _ _ _ _ _ row hp a b h).symm

/-- The kernel's result is the reference's. -/
theorem result_eq (c : Dev nD) (hpre : Cert.Pre_indices_in_range.fn (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      = fun _ => 1#1) :
    (Pipeline.afterTail₀ cfgs (dats m) 0 (V0 m) [hostOps1] c main_v27 : Vec Ideal S4096x50x128 .f32)
      = reference (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  obtain ⟨row, hrow⟩ := small_of_pre _ _ _ _ _ _ _ hpre
  funext y
  obtain ⟨a, b, h, rfl⟩ : ∃ (a : Fin 4096) (b : Fin 50) (h : Fin 128), y = ix3 a b h := ⟨y 0, y 1, y 2, eq_ix3 y⟩
  exact result_apply m c row _ rfl hrow a b h

end Cert.Proof

end
-- ==== Proof.lean ====
module

public import proofs.«01_k».proof.Proof.Result
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_indices_in_range
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, leaves its arguments as they were, and every counter ends at zero. -/
theorem reference_frame : Cert.quiescent_ReferenceIdeal := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

/-- Kernel and reference, from the same arguments with row numbers in range, end with the same result. -/
theorem same_result : Cert.algebraic_KernelIdeal_ReferenceIdeal_pre_indices_in_range := by
  intro m g m' g' hpre hargs
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v27, ?_, ?_⟩
  · refine (θ_run (Cert.KernelIdeal.defs (F := Ideal)) _ _).mono (fun r h c => ⟨?_, h.2 c⟩)
      (θ_run_and (Cert.KernelIdeal.Gen.run_main (F := Ideal) m g) (Cert.KernelIdeal.Gen.unchanged (F := Ideal) m g))
    exact (h.1 c).2 Cert.KernelIdeal.main_v27 (Pipeline.mem_restRefs_of Cert.KernelIdeal.main_v27 (by decide) (by decide))
  · refine (θ_run (Cert.ReferenceIdeal.defs (F := Ideal)) _ _).mono (fun r h c => ⟨?_, (h c).2⟩)
      (Cert.ReferenceIdeal.Value.run (F := Ideal) m' g')
    obtain ⟨a0, a1, a2, a3, a4, a5, a6⟩ := hargs c
    refine (h c).1.trans ((res_eq_reference m' c).trans ?_)
    rw [a0, a1, a2, a3, a4, a5, a6]
    exact (result_eq m c (hpre c)).symm

theorem claim : Cert.Claim :=
  ⟨Cert.Kernel.Gen.facts, Cert.KernelIdeal.Gen.facts, Cert.ReferenceIdeal.Gen.facts, Cert.Pre_indices_in_range.Gen.facts,
    fun m g _ => Cert.Kernel.Gen.frame m g, fun m g _ => Cert.KernelIdeal.Gen.frame m g, fun m g _ => Cert.KernelIdeal.Gen.frame m g,
    reference_frame, fun m g _ => reference_frame m g trivial, trivial, same_result⟩

end Cert.Proof

end
